-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S1024 : Shape := ⟨1, ![1024]⟩
abbrev S100000x128 : Shape := ⟨2, ![100000, 128]⟩
abbrev S100000x1024 : Shape := ⟨2, ![100000, 1024]⟩
abbrev S5000x128 : Shape := ⟨2, ![5000, 128]⟩
abbrev S5000x1024 : Shape := ⟨2, ![5000, 1024]⟩
abbrev S1024x100000 : Shape := ⟨2, ![1024, 100000]⟩

abbrev nBuf : Space → Nat
  | .hbm => 5
  | .vmem => 5
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S100000x1024, .f32⟩
  | .hbm, ⟨4, _⟩ => ⟨S1024x100000, .f32⟩
  | .local _ .vmem, ⟨0, _⟩ => ⟨S5000x128, .f32⟩
  | .local _ .vmem, ⟨1, _⟩ => ⟨S5000x128, .f32⟩
  | .local _ .vmem, ⟨2, _⟩ => ⟨S1024x128, .f32⟩
  | .local _ .vmem, ⟨3, _⟩ => ⟨S5000x1024, .f32⟩
  | .local _ .vmem, ⟨4, _⟩ => ⟨S5000x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x128 : Shape := ⟨2, ![1024, 128]⟩
abbrev S1024 : Shape := ⟨1, ![1024]⟩
abbrev S100000x128 : Shape := ⟨2, ![100000, 128]⟩
abbrev S128x100000 : Shape := ⟨2, ![128, 100000]⟩
abbrev S1024x100000 : Shape := ⟨2, ![1024, 100000]⟩

abbrev nBuf : Space → Nat
  | .hbm => 5
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S128x100000, .f32⟩
  | .hbm, ⟨4, _⟩ => ⟨S1024x100000, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Logits.lean ====
/-
  The mathematics of the logits, apart from any program: `logits x mem` has at (r, c) the inner product of row `r` of the
  inputs with row `c` of the memory. Both programs' products are read at an index here:

    `blockProduct_apply`  — the kernel's product of a block of memory rows with the inputs;
    `hostProduct_eq`      — the reference's product of the inputs with the transposed memory, as a whole array;
    `transpose_logitsT`   — the kernel's layout, memory rows first, turned round.
-/
module

public import proofs.«01_k».proof.Proof.Gen.KernelIdeal.Skeleton
public import proofs.«01_k».proof.Proof.Gen.ReferenceIdeal
public import Idealize.ShloMosaic.Lib.MatmulPlain
public import Idealize.ShloMosaic.Lib.StackMember
public import Idealize.ShloMosaic.Lib.ValueLayout

@[expose] public section

noncomputable section

namespace Cert.Logits

open Idealize.ShloMosaic Idealize.ShloMosaic.ValueIdx
open scoped BigOperators

/-- The logits: entry (r, c) is the sum over the 128 features of input row `r` times memory row `c`. -/
def logits (x : FVec Ideal ⟨2, ![1024, 128]⟩ .f32) (mem : FVec Ideal ⟨2, ![100000, 128]⟩ .f32) :
    FVec Ideal ⟨2, ![1024, 100000]⟩ .f32 :=
  fun i => ∑ k : Fin 128, x (ix2 (i 0) k) * mem (ix2 (i 1) k)

/-- The logits with memory rows first, as the tiled kernel lays them out: entry (c, r) is logit (r, c). -/
def logitsT (x : FVec Ideal ⟨2, ![1024, 128]⟩ .f32) (mem : FVec Ideal ⟨2, ![100000, 128]⟩ .f32) :
    FVec Ideal ⟨2, ![100000, 1024]⟩ .f32 :=
  fun i => ∑ k : Fin 128, mem (ix2 (i 0) k) * x (ix2 (i 1) k)

/-- The product that the kernel's body stores, read at an index: block row `a` times input row `b`, summed over the
    features. -/
theorem blockProduct_apply (v0 : FVec Ideal ⟨2, ![5000, 128]⟩ .f32) (v1 : FVec Ideal ⟨2, ![1024, 128]⟩ .f32)
    (a : Fin 5000) (b : Fin 1024) :
    Cert.KernelIdeal.Gen.k0_pay1 (F := Ideal) v0 v1 (ix2 a b) = ∑ k : Fin 128, v0 (ix2 a k) * v1 (ix2 b k) := by
  have h := Ideal.matmul_transposedRhs_apply none v0 v1 (constant ⟨2, ![5000, 1024]⟩ .f32 0x00000000#32) a b
  have z : (constant (F := Ideal) ⟨2, ![5000, 1024]⟩ .f32 0x00000000#32 : FVec Ideal ⟨2, ![5000, 1024]⟩ .f32) (ix2 a b) = 0 :=
    Ideal.ofBits_zero_f32
  rw [z, zero_add] at h
  exact h

/-- The reference's result is the logits. -/
theorem hostProduct_eq (x : FVec Ideal ⟨2, ![1024, 128]⟩ .f32) (mem : FVec Ideal ⟨2, ![100000, 128]⟩ .f32)
    (h : (⟨2, ![100000, 128]⟩ : Shape).Transposes [1, 0] ⟨2, ![128, 100000]⟩) :
    Host.dotGeneral (DotDims.plain 1024 128 100000) none x (transpose ⟨2, ![128, 100000]⟩ [1, 0] mem h) = logits x mem := by
  funext i
  obtain ⟨a, b, rfl⟩ : ∃ (a : Fin 1024) (b : Fin 100000), i = ix2 a b := ⟨i 0, i 1, eq_ix2 i⟩
  rw [StackMember.dotGeneral_plain_apply]
  refine Finset.sum_congr rfl fun k _ => ?_
  rw [transpose_ix2_apply]

/-- Turning the kernel's layout round gives the logits: each product's two factors change places. -/
theorem transpose_logitsT (x : FVec Ideal ⟨2, ![1024, 128]⟩ .f32) (mem : FVec Ideal ⟨2, ![100000, 128]⟩ .f32)
    (h : (⟨2, ![100000, 1024]⟩ : Shape).Transposes [1, 0] ⟨2, ![1024, 100000]⟩) :
    transpose ⟨2, ![1024, 100000]⟩ [1, 0] (logitsT x mem) h = logits x mem := by
  funext i
  obtain ⟨a, b, rfl⟩ : ∃ (a : Fin 1024) (b : Fin 100000), i = ix2 a b := ⟨i 0, i 1, eq_ix2 i⟩
  rw [transpose_ix2_apply]
  exact Finset.sum_congr rfl fun k _ => mul_comm _ _

end Cert.Logits

end
-- ==== Proof.KernelValue.lean ====
/-
  What the kernel's run leaves in its result, at the ideal values: the twenty blocks that the pipeline writes back are the
  blocks of one array, the logits with memory rows first, and they cover it; the host's transpose after the launch turns
  that array into the logits.
-/
module

public import proofs.«01_k».proof.Proof.Gen.KernelIdeal.Frame
public import proofs.«01_k».proof.Proof.Logits
public import Idealize.ShloMosaic.Lib.Pipeline.Value
public import Idealize.ShloMosaic.Lib.Pipeline.ValueKit.Geometry
public import Idealize.ShloMosaic.Lib.StableHlo.Run

@[expose] public section

noncomputable section

namespace Cert.KernelIdeal.LogitsValue

open Cert.KernelIdeal Cert.KernelIdeal.Gen Cert.Logits
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Device `c`'s inputs and memory bank, as launched. -/
abbrev inputs (c : Dev nD) : FVec Ideal ⟨2, ![1024, 128]⟩ .f32 := m ((c : Thread nD τ).loc main_arg0)
abbrev bank (c : Dev nD) : FVec Ideal ⟨2, ![100000, 128]⟩ .f32 := m ((c : Thread nD τ).loc main_arg2)

theorem zero2 : (![0, 0] : Fin 2 → Nat) = fun _ => 0 := funext fun a => by fin_cases a <;> rfl

/-- Block indices: the bank's block and the result's block at point `t` are the `t`-th along the rows, the inputs' block is
    the whole array at every point. -/
theorem index_bank : ∀ t : Fin cfg0.N, win0_0.index t = ![t.val, 0] := (by decide +kernel : ∀ t : Fin grid0.N, _)
theorem index_inputs : ∀ t : Fin cfg0.N, win0_1.index t = ![0, 0] := (by decide +kernel : ∀ t : Fin grid0.N, _)
theorem index_result : ∀ t : Fin cfg0.N, win0_2.index t = ![t.val, 0] := (by decide +kernel : ∀ t : Fin grid0.N, _)

/-- The result's block at point `t` places its row `a` at row `t · 5000 + a` of the array, and keeps the column. -/
theorem result_row (t : Fin cfg0.N) (y : S5000x1024.Idx) :
    ((((cfg0.win 2).blk t).view.emb y 0 : Fin 100000) : ℕ) = t.val * 5000 + (y 0).val := by
  blk_simp [index_result t]
theorem result_column (t : Fin cfg0.N) (y : S5000x1024.Idx) :
    ((((cfg0.win 2).blk t).view.emb y 1 : Fin 1024) : ℕ) = (y 1).val := by
  blk_simp [index_result t]

/-- Row `a` of the bank's block at point `t` is the bank's row where the result's block places row `a`. -/
theorem bank_block (c : Dev nD) (t : Fin cfg0.N) (y : S5000x1024.Idx) (k : Fin 128) :
    iblk m c 0 t (ix2 (y 0) k) = bank m c (ix2 (((cfg0.win 2).blk t).view.emb y 0) k) := by
  refine congrArg (bank m c) (funext fun a => Fin.ext ?_)
  match a with
  | ⟨0, _⟩ =>
    refine Eq.trans ?_ (result_row t y).symm
    blk_simp [index_bank t]
  | ⟨1, _⟩ =>
    blk_simp [index_bank t]

/-- The inputs' block is the inputs: its row `b` is the inputs' row where the result's block places column `b`. -/
theorem inputs_block (c : Dev nD) (t : Fin cfg0.N) (y : S5000x1024.Idx) (k : Fin 128) :
    iblk m c 1 t (ix2 (y 1) k) = inputs m c (ix2 (((cfg0.win 2).blk t).view.emb y 1) k) := by
  refine congrArg (inputs m c) (funext fun a => Fin.ext ?_)
  match a with
  | ⟨0, _⟩ =>
    refine Eq.trans ?_ (result_column t y).symm
    blk_simp [index_inputs t]
  | ⟨1, _⟩ =>
    blk_simp [index_inputs t]

/-- After the launch the result array holds the logits with memory rows first. -/
theorem launch_result (c : Dev nD) : (dats m 0 c).arrAt 2 cfg0.N = logitsT (inputs m c) (bank m c) := by
  refine (dats m 0 c).arrAt_eq_of_covers 2 _ (by decide +kernel) fun t _ y => ?_
  rw [after0_2]
  unfold out0_2
  rw [View.canon_unit_zero zero2, View.ld_unit_zero zero2, View.ld_unit_zero zero2]
  refine (congrArg (k0_pay1 (F := Ideal) (iblk m c 0 t) (iblk m c 1 t)) (eq_ix2 (n0 := 5000) (n1 := 1024) y)).trans ?_
  refine (blockProduct_apply _ _ _ _).trans ?_
  refine Finset.sum_congr rfl fun k _ => ?_
  rw [bank_block, inputs_block]

/-- The host's transpose, after the launch, leaves the logits in @main's result. -/
theorem main_result (c : Dev nD) :
    Pipeline.afterTail₀ cfgs (dats m) 0 (V0 m) [hostOps1] c main_v1 = logits (inputs m c) (bank m c) := by
  have hw : Pipeline.withArrays (cfgs 0).spec c (V0 m c) (fun w => (dats m 0 c).arrAt w (cfgs 0).N) (Proc.devRef .tc main_v0)
      = logitsT (inputs m c) (bank m c) :=
    (Pipeline.withArrays_arr spec0 (by decide) c (V0 m c) _ 2).trans (launch_result m c)
  unfold Pipeline.afterTail₀
  simp only [hostOps1, List.flatten_cons, List.flatten_nil, List.append_nil]
  refine Eq.trans (b := transpose S1024x100000 [1, 0] (Pipeline.withArrays (cfgs 0).spec c (V0 m c)
    (fun w => (dats m 0 c).arrAt w (cfgs 0).N) (Proc.devRef .tc main_v0)) transposes_S100000x1024_S1024x100000_1_0) ?_ ?_
  · after_results
  · rw [hw]
    exact transpose_logitsT _ _ _

/-- The run, read: the result holds the logits of the arguments, which end unchanged. -/
theorem run : θ_run defs (onTc (τ := τ) (main (F := Ideal))) ⟨m, fun _ => 0, ρ⟩ fun r => ∀ c : Dev nD,
      r.2.mem ((c.tc : Thread nD τ).loc main_v1) = logits (inputs m c) (bank m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v1 (Pipeline.mem_restRefs_of main_v1 (by decide) (by decide))).trans
      (main_result m c), h.2 c⟩)
    (θ_run_and (run_main m ρ) (unchanged m ρ))

end Cert.KernelIdeal.LogitsValue

end
-- ==== Proof.lean ====
/-
  The certificate: the tiled kernel computes the logits `inputs @ mem.T`.

    quiescent_Kernel, quiescent_KernelIdeal — the generated frames.
    quiescent_ReferenceIdeal                — the reference's host run read at its arguments; it has no semaphore.
    preserves_Kernel_KernelIdeal            — nothing was rewritten.
    algebraic_KernelIdeal_ReferenceIdeal    — both results are `Cert.Logits.logits` of the same arguments
                                              (Proof/KernelValue.lean, Proof/Logits.lean).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Logits
public import proofs.«01_k».proof.Proof.KernelValue
public import Idealize.ShloMosaic.Lib.Quiescent

@[expose] public section

noncomputable section

namespace Cert.Proof

open Idealize.ShloMosaic Idealize.ShloMosaic.TcCoe Idealize.SL.Sem

/-- The reference terminates with its arguments unchanged; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference end with the same array, the logits of the arguments. -/
theorem algebraic : Cert.algebraic_KernelIdeal_ReferenceIdeal := by
  intro m ρ m' ρ' _ hagree
  refine ⟨fun c => Cert.Logits.logits (Cert.KernelIdeal.LogitsValue.inputs m c) (Cert.KernelIdeal.LogitsValue.bank m c),
    Cert.KernelIdeal.LogitsValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2]
  exact Cert.Logits.hostProduct_eq _ _ _

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    frame_reference, trivial, algebraic⟩

end Cert.Proof

end
